-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S64x1024 : Shape := ⟨2, ![64, 1024]⟩
abbrev S64 : Shape := ⟨1, ![64]⟩
abbrev S8x1024x2048 : Shape := ⟨3, ![8, 1024, 2048]⟩
abbrev S8x2048x1024 : Shape := ⟨3, ![8, 2048, 1024]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel

variable [Facts]

def fn {F : FTy → Type} [FloatOps F] (main_arg0 : FVec F S64x1024 .f32) (main_arg1 : IVec S64 32) (main_arg2 : FVec F S8x1024x2048 .f32) (main_arg3 : FVec F S8x1024x2048 .f32) (main_arg4 : FVec F S8x2048x1024 .f32) : IVec S_ 1 :=
  let main_c : IVec S_ 32 := constantI S_ 32 0#32
  let main_v0 : IVec S64 32 := broadcastInDim S64 ![] bcast_S_S64 main_c
  let main_v1 : IVec S64 1 := cmpi .sge main_arg1 main_v0
  let main_c_0 : IVec S_ 32 := constantI S_ 32 8#32
  let main_v2 : IVec S64 32 := broadcastInDim S64 ![] bcast_S_S64 main_c_0
  let main_v3 : IVec S64 1 := cmpi .slt main_arg1 main_v2
  let main_v4 : IVec S64 1 := andi main_v1 main_v3
  let main_c_1 : IVec S_ 1 := constantI S_ 1 1#1
  let main_v5 : IVec S_ 1 := (fun x v => Host.reduce IntOp.andi x v reducesTo_S64_S_d0 h_S_) main_v4 main_c_1
  main_v5
-- ==== Kernel.lean ====
abbrev S64x1024 : Shape := ⟨2, ![64, 1024]⟩
abbrev S64 : Shape := ⟨1, ![64]⟩
abbrev S8x1024x2048 : Shape := ⟨3, ![8, 1024, 2048]⟩
abbrev S8x2048x1024 : Shape := ⟨3, ![8, 2048, 1024]⟩
abbrev S64x1 : Shape := ⟨2, ![64, 1]⟩
abbrev S2x64x1024 : Shape := ⟨3, ![2, 64, 1024]⟩
abbrev S1x64x1024 : Shape := ⟨3, ![1, 64, 1024]⟩
abbrev S1x1024x1024 : Shape := ⟨3, ![1, 1024, 1024]⟩
abbrev S1024x1024 : Shape := ⟨2, ![1024, 1024]⟩

abbrev nBuf : Space → Nat
  | .hbm => 12
  | .vmem => 10
  | .smem => 0
  | _ => 0

abbrev bufTy : (tb : Table) → Fin (tcTables nBuf tb) → BufTy
  | .hbm, ⟨0, _⟩ => ⟨S64x1024, .f32⟩
  | .hbm, ⟨1, _⟩ => ⟨S64, .i32⟩
  | .hbm, ⟨2, _⟩ => ⟨S8x1024x2048, .f32⟩
  | .hbm, ⟨3, _⟩ => ⟨S8x1024x2048, .f32⟩
  | .hbm, ⟨4, _⟩ => ⟨S8x2048x1024, .f32⟩
  | .hbm, ⟨5, _⟩ => ⟨S64x1, .i32⟩
  | .hbm, ⟨6, _⟩ => ⟨S2x64x1024, .f32⟩
  | .hbm, ⟨7, _⟩ => ⟨S1x64x1024, .f32⟩
  | .hbm, ⟨8, _⟩ => ⟨S64x1024, .f32⟩
  | .hbm, ⟨9, _⟩ => ⟨S1x64x1024, .f32⟩
  | .hbm, ⟨10, _⟩ => ⟨S64x1024, .f32⟩
  | .hbm, ⟨11, _⟩ => ⟨S64x1024, .f32⟩
  | .local _ .vmem, ⟨0, _⟩ => ⟨S64x1, .i32⟩
  | .local _ .vmem, ⟨1, _⟩ => ⟨S64x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x64x1024, .f32⟩
  | .local _ .vmem, ⟨9, _⟩ => ⟨S1x64x1024, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S64x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S64x1024 : Shape := ⟨2, ![64, 1024]⟩
abbrev S64 : Shape := ⟨1, ![64]⟩
abbrev S8x1024x2048 : Shape := ⟨3, ![8, 1024, 2048]⟩
abbrev S8x2048x1024 : Shape := ⟨3, ![8, 2048, 1024]⟩
abbrev S_ : Shape := ⟨0, ![]⟩
abbrev S64x1 : Shape := ⟨2, ![64, 1]⟩
abbrev S1 : Shape := ⟨1, ![1]⟩
abbrev S1x1 : Shape := ⟨2, ![1, 1]⟩
abbrev S64x1024x2048 : Shape := ⟨3, ![64, 1024, 2048]⟩
abbrev S64x2048x1024 : Shape := ⟨3, ![64, 2048, 1024]⟩
abbrev S64x2048 : Shape := ⟨2, ![64, 2048]⟩

abbrev nBuf : Space → Nat
  | .hbm => 87
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S64, .i32⟩
  | .hbm, ⟨2, _⟩ => ⟨S8x1024x2048, .f32⟩
  | .hbm, ⟨3, _⟩ => ⟨S8x1024x2048, .f32⟩
  | .hbm, ⟨4, _⟩ => ⟨S8x2048x1024, .f32⟩
  | .hbm, ⟨5, _⟩ => ⟨S_, .i32⟩
  | .hbm, ⟨6, _⟩ => ⟨S64, .i32⟩
  | .hbm, ⟨7, _⟩ => ⟨S64, .i1⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S64, .i32⟩
  | .hbm, ⟨12, _⟩ => ⟨S64x1, .i32⟩
  | .hbm, ⟨13, _⟩ => ⟨S1, .i32⟩
  | .hbm, ⟨14, _⟩ => ⟨S_, .i32⟩
  | .hbm, ⟨15, _⟩ => ⟨S64x1, .i32⟩
  | .hbm, ⟨16, _⟩ => ⟨S64x1, .i1⟩
  | .hbm, ⟨17, _⟩ => ⟨S1x1, .i32⟩
  | .hbm, ⟨18, _⟩ => ⟨S64x1, .i32⟩
  | .hbm, ⟨19, _⟩ => ⟨S64x1, .i1⟩
  | .hbm, ⟨20, _⟩ => ⟨S64x1, .i1⟩
  | .hbm, ⟨21, _⟩ => ⟨S_, .i1⟩
  | .hbm, ⟨22, _⟩ => ⟨S64, .i1⟩
  | .hbm, ⟨23, _⟩ => ⟨S64x1024x2048, .f32⟩
  | .hbm, ⟨24, _⟩ => ⟨S64x1024x2048, .i1⟩
  | .hbm, ⟨25, _⟩ => ⟨S_, .f32⟩
  | .hbm, ⟨26, _⟩ => ⟨S64x1024x2048, .f32⟩
  | .hbm, ⟨27, _⟩ => ⟨S64x1024x2048, .f32⟩
  | .hbm, ⟨28, _⟩ => ⟨S_, .i32⟩
  | .hbm, ⟨29, _⟩ => ⟨S64, .i32⟩
  | .hbm, ⟨30, _⟩ => ⟨S64, .i1⟩
  | .hbm, ⟨31, _⟩ => ⟨S_, .i32⟩
  | .hbm, ⟨32, _⟩ => ⟨S64, .i32⟩
  | .hbm, ⟨33, _⟩ => ⟨S64, .i32⟩
  | .hbm, ⟨34, _⟩ => ⟨S64, .i32⟩
  | .hbm, ⟨35, _⟩ => ⟨S64x1, .i32⟩
  | .hbm, ⟨36, _⟩ => ⟨S1, .i32⟩
  | .hbm, ⟨37, _⟩ => ⟨S_, .i32⟩
  | .hbm, ⟨38, _⟩ => ⟨S64x1, .i32⟩
  | .hbm, ⟨39, _⟩ => ⟨S64x1, .i1⟩
  | .hbm, ⟨40, _⟩ => ⟨S1x1, .i32⟩
  | .hbm, ⟨41, _⟩ => ⟨S64x1, .i32⟩
  | .hbm, ⟨42, _⟩ => ⟨S64x1, .i1⟩
  | .hbm, ⟨43, _⟩ => ⟨S64x1, .i1⟩
  | .hbm, ⟨44, _⟩ => ⟨S_, .i1⟩
  | .hbm, ⟨45, _⟩ => ⟨S64, .i1⟩
  | .hbm, ⟨46, _⟩ => ⟨S64x1024x2048, .f32⟩
  | .hbm, ⟨47, _⟩ => ⟨S64x1024x2048, .i1⟩
  | .hbm, ⟨48, _⟩ => ⟨S_, .f32⟩
  | .hbm, ⟨49, _⟩ => ⟨S64x1024x2048, .f32⟩
  | .hbm, ⟨50, _⟩ => ⟨S64x1024x2048, .f32⟩
  | .hbm, ⟨51, _⟩ => ⟨S_, .i32⟩
  | .hbm, ⟨52, _⟩ => ⟨S64, .i32⟩
  | .hbm, ⟨53, _⟩ => ⟨S64, .i1⟩
  | .hbm, ⟨54, _⟩ => ⟨S_, .i32⟩
  | .hbm, ⟨55, _⟩ => ⟨S64, .i32⟩
  | .hbm, ⟨56, _⟩ => ⟨S64, .i32⟩
  | .hbm, ⟨57, _⟩ => ⟨S64, .i32⟩
  | .hbm, ⟨58, _⟩ => ⟨S64x1, .i32⟩
  | .hbm, ⟨59, _⟩ => ⟨S1, .i32⟩
  | .hbm, ⟨60, _⟩ => ⟨S_, .i32⟩
  | .hbm, ⟨61, _⟩ => ⟨S64x1, .i32⟩
  | .hbm, ⟨62, _⟩ => ⟨S64x1, .i1⟩
  | .hbm, ⟨63, _⟩ => ⟨S1x1, .i32⟩
  | .hbm, ⟨64, _⟩ => ⟨S64x1, .i32⟩
  | .hbm, ⟨65, _⟩ => ⟨S64x1, .i1⟩
  | .hbm, ⟨66, _⟩ => ⟨S64x1, .i1⟩
  | .hbm, ⟨67, _⟩ => ⟨S_, .i1⟩
  | .hbm, ⟨68, _⟩ => ⟨S64, .i1⟩
  | .hbm, ⟨69, _⟩ => ⟨S64x2048x1024, .f32⟩
  | .hbm, ⟨70, _⟩ => ⟨S64x2048x1024, .i1⟩
  | .hbm, ⟨71, _⟩ => ⟨S_, .f32⟩
  | .hbm, ⟨72, _⟩ => ⟨S64x2048x1024, .f32⟩
  | .hbm, ⟨73, _⟩ => ⟨S64x2048x1024, .f32⟩
  | .hbm, ⟨74, _⟩ => ⟨S64x2048, .f32⟩
  | .hbm, ⟨75, _⟩ => ⟨S64x2048, .f32⟩
  | .hbm, ⟨76, _⟩ => ⟨S64x2048, .f32⟩
  | .hbm, ⟨77, _⟩ => ⟨S64x2048, .f32⟩
  | .hbm, ⟨78, _⟩ => ⟨S_, .f32⟩
  | .hbm, ⟨79, _⟩ => ⟨S64x2048, .f32⟩
  | .hbm, ⟨80, _⟩ => ⟨S64x2048, .f32⟩
  | .hbm, ⟨81, _⟩ => ⟨S_, .f32⟩
  | .hbm, ⟨82, _⟩ => ⟨S64x2048, .f32⟩
  | .hbm, ⟨83, _⟩ => ⟨S64x2048, .f32⟩
  | .hbm, ⟨84, _⟩ => ⟨S64x2048, .f32⟩
  | .hbm, ⟨85, _⟩ => ⟨S64x2048, .f32⟩
  | .hbm, ⟨86, _⟩ => ⟨S64x1024, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v1 : Ref sig .tc := ⟨.hbm, 50, rfl⟩
abbrev main_call2_c : Ref sig .tc := ⟨.hbm, 51, rfl⟩
abbrev main_call2_v0 : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_c_1 : Ref sig .tc := ⟨.hbm, 59, rfl⟩
abbrev main_call2_c_2 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_3 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_call2_cst : Ref sig .tc := ⟨.hbm, 71, rfl⟩
abbrev main_call2_v15 : Ref sig .tc := ⟨.hbm, 72, rfl⟩
abbrev main_v2 : Ref sig .tc := ⟨.hbm, 73, rfl⟩
abbrev main_v3 : Ref sig .tc := ⟨.hbm, 74, rfl⟩
abbrev main_v4 : Ref sig .tc := ⟨.hbm, 75, rfl⟩
abbrev main_call3_v0 : Ref sig .tc := ⟨.hbm, 76, rfl⟩
abbrev main_call3_v1 : Ref sig .tc := ⟨.hbm, 77, rfl⟩
abbrev main_call3_cst : Ref sig .tc := ⟨.hbm, 78, rfl⟩
abbrev main_call3_v2 : Ref sig .tc := ⟨.hbm, 79, rfl⟩
abbrev main_call3_v3 : Ref sig .tc := ⟨.hbm, 80, rfl⟩
abbrev main_call3_cst_0 : Ref sig .tc := ⟨.hbm, 81, rfl⟩
abbrev main_call3_v4 : Ref sig .tc := ⟨.hbm, 82, rfl⟩
abbrev main_call3_v5 : Ref sig .tc := ⟨.hbm, 83, rfl⟩
abbrev main_v5 : Ref sig .tc := ⟨.hbm, 84, rfl⟩
abbrev main_v6 : Ref sig .tc := ⟨.hbm, 85, rfl⟩
abbrev main_v7 : Ref sig .tc := ⟨.hbm, 86, rfl⟩

abbrev nD : Nat := 1
abbrev τ : Topo := Topo.v7x

variable {F : FTy → Type} [FloatOps F]
-- ==== Proof.KernelArray.lean ====
/-
  What the kernel's launch leaves in the array of the two half-width partial results, for any float instance. A grid
  point writes the whole [1, 64, 1024] block it holds, over zero at the first expert of a half and over what the point
  before left at the other experts; the block goes back to the array after the last expert of a half, so slab `p` of
  the array is the block as point `8·p + 7` leaves it.
-/
module

public import proofs.«01_k».proof.Proof.Gen.KernelIdeal.Frame
public import Idealize.ShloMosaic.Lib.Pipeline.Value
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe Idealize.SL.Sem

open Idealize.ShloMosaic.Pipeline (Dat)

variable {F : FTy → Type} [FloatOps F]
variable (m : (ℓ : Loc nD τ sig) → Buf (Elt F) ℓ) (ρ : Dev nD → PrngReg)

/-- The origin of a rank-2 array. -/
theorem origin2 : (![0, 0] : Fin 2 → Nat) = fun _ => 0 := by funext a; fin_cases a <;> rfl
/-- The origin of a rank-3 array. -/
theorem origin3 : (![0, 0, 0] : Fin 3 → Nat) = fun _ => 0 := by funext a; fin_cases a <;> rfl

section Body

variable (c : Dev nD) (i : grid0.Coords)
  (arg2 : Memref sig .tc .vmem S64x1 .i32) (h2 : arg2.IsWhole) (arg3 : Memref sig .tc .vmem S64x1024 .f32) (h3 : arg3.IsWhole)
  (arg4 : Memref sig .tc .vmem S1x1024x1024 .f32) (h4 : arg4.IsWhole) (arg5 : Memref sig .tc .vmem S1x1024x1024 .f32) (h5 : arg5.IsWhole)
  (arg6 : Memref sig .tc .vmem S1x1024x1024 .f32) (h6 : arg6.IsWhole) (arg7 : Memref sig .tc .vmem S1x64x1024 .f32) (h7 : arg7.IsWhole)
  (x0 : Vec F S64x1 .i32) (x1 : Vec F S64x1024 .f32) (x2 x3 x4 : Vec F S1x1024x1024 .f32) (acc : Vec F S1x64x1024 .f32)

/-- At the first expert of a half the body leaves that expert's product over the zero block. -/
theorem first_leaves (hc : cond0_0 i) :
    out0_A_5 c i arg2 h2 arg3 h3 arg4 h4 arg5 h5 arg6 h6 arg7 h7 hc x0 x1 x2 x3 x4
      = k0_pay2 i x1 x2 x3 x0 (k0_pay1 (F := F)) x4 := by
  unfold out0_A_5
  rw [View.read_writes_eq_canon _ _ _ (cover0_A_5 c i arg2 h2 arg3 h3 arg4 h4 arg5 h5 arg6 h6 arg7 h7 hc x0 x1 x2 x3 x4)]
  unfold kernelRun0_A
  dsimp only
  try sl_unfold_words
  rw [View.canon_cons_unit_zero (S := S1x64x1024) origin3, View.readCov_unit_zero (S := S1x64x1024) _ origin3]
  simp only [View.readAt_eq_ld, h2.read_unread, h3.read_unread, h4.read_unread, h5.read_unread, h6.read_unread,
    View.ld_unit_zero (S := S1x1024x1024) origin3, View.ld_unit_zero (S := S64x1) origin2,
    View.ld_unit_zero (S := S64x1024) origin2, shapeCast_self]

/-- At every other expert the body leaves that expert's product over the block it found. -/
theorem later_leaves (hc : ¬cond0_0 i) :
    out0_B_5 c i arg2 h2 arg3 h3 arg4 h4 arg5 h5 arg6 h6 arg7 h7 hc x0 x1 x2 x3 x4 acc
      = k0_pay2 i x1 x2 x3 x0 acc x4 := by
  unfold out0_B_5
  rw [View.read_writes_eq_canon _ _ _ (cover0_B_5 c i arg2 h2 arg3 h3 arg4 h4 arg5 h5 arg6 h6 arg7 h7 hc x0 x1 x2 x3 x4 acc)]
  unfold kernelRun0_B
  dsimp only
  try sl_unfold_words
  rw [View.canon_unit_zero origin3]
  simp only [View.readAt_eq_ld, h2.read_unread, h3.read_unread, h4.read_unread, h5.read_unread, h6.read_unread, h7.read_unread,
    View.ld_unit_zero (S := S1x1024x1024) origin3, View.ld_unit_zero (S := S1x64x1024) origin3,
    View.ld_unit_zero (S := S64x1) origin2, View.ld_unit_zero (S := S64x1024) origin2, shapeCast_self]

end Body

/-- What point `t` leaves, over a block `acc`: the body's stored value at the point's own input blocks. -/
def leave (c : Dev nD) (t : Fin cfg0.N) (acc : Vec F S1x64x1024 .f32) : Vec F S1x64x1024 .f32 :=
  k0_pay2 (grid0.coords t) (iblk m c 1 t) (iblk m c 2 t) (iblk m c 3 t) (iblk m c 0 t) acc (iblk m c 4 t)

/-- The block after the first point of a half. -/
theorem block_first (c : Dev nD) (n : ℕ) (h : n < cfg0.N) (h0 : n % 8 = 0) :
    outsAt0 m c n h = leave m c ⟨n, h⟩ (k0_pay1 (F := F)) := by
  rw [outsAt0_A m c ⟨n, h⟩ h0]
  exact first_leaves ..

/-- The block after a later point, over the block after the point before. -/
theorem block_later (c : Dev nD) (n : ℕ) (h : n + 1 < cfg0.N) (h0 : ¬(n + 1) % 8 = 0) :
    outsAt0 m c (n + 1) h = leave m c ⟨n + 1, h⟩ (outsAt0 m c n (Nat.lt_of_succ_lt h)) := by
  rw [outsAt0_B m c ⟨n + 1, h⟩ h0]
  exact later_leaves ..

/-- The last point of half `p` is a point of the grid. -/
theorem last_lt (p : Fin 2) : 8 * p.val + 7 < cfg0.N := by
  show _ < grid0.N
  rw [N_0]; omega

/-- The two partial results: slab `p` is the block as the last point of half `p` leaves it. -/
def partials (c : Dev nD) : Buf (Elt F) ((c : Thread nD τ).loc main_call0_v1) := fun (j : S2x64x1024.Idx) =>
  outsAt0 m c (8 * (j 0).val + 7) (last_lt (j 0)) (ix3 (0 : Fin 1) (j 1 : Fin 64) (j 2 : Fin 1024))

/-- The written-back block of point `t` lies in slab `t / 8`, at the origin of the other axes. -/
theorem out_block (t : Fin cfg0.N) : win0_5.index t 0 = t.val / 8 ∧ win0_5.index t 1 = 0 ∧ win0_5.index t 2 = 0 := by
  revert t
  exact (by decide +kernel : ∀ t : Fin grid0.N, win0_5.index t 0 = t.val / 8 ∧ win0_5.index t 1 = 0 ∧ win0_5.index t 2 = 0)

/-- Blocks after equal points are equal. -/
theorem block_congr (c : Dev nD) {a b : ℕ} (ha : a < cfg0.N) (hb : b < cfg0.N) (e : a = b) : outsAt0 m c a ha = outsAt0 m c b hb := by
  subst e; rfl

/-- What a point that writes back writes is its block of `partials`. -/
theorem writes_partials (c : Dev nD) (t : Fin cfg0.N) (hf : (cfg0.win 5).flush t = true) :
    (dats m 0 c).flushed 5 t = ((cfg0.win 5).blk t).view.read (Elt F) (partials m c) := by
  show (cfg0.win 5).cut (grid0.coords t) ((dats m 0 c).after 5 t) = _
  rw [after0_5]
  have h7 : t.val % 8 = 7 := (flush0_5 t).mp hf
  obtain ⟨e0, e1, e2⟩ := out_block t
  funext y
  have y0 : (y 0).val < 1 := (y 0).isLt
  have z0 : (((cfg0.win 5).blk t).view.emb y 0).val = win0_5.index t 0 * 1 + 1 * (y 0).val := rfl
  have z1 : (((cfg0.win 5).blk t).view.emb y 1).val = win0_5.index t 1 * 64 + 1 * (y 1).val := rfl
  have z2 : (((cfg0.win 5).blk t).view.emb y 2).val = win0_5.index t 2 * 1024 + 1 * (y 2).val := rfl
  show outsAt0 m c t.val t.isLt ((cfg0.win 5).xinj (grid0.coords t) y) = partials m c (((cfg0.win 5).blk t).view.emb y)
  unfold partials
  rw [block_congr m c t.isLt (last_lt _) (show t.val = 8 * (((cfg0.win 5).blk t).view.emb y 0).val + 7 by omega)]
  refine congrArg _ (funext fun a => Fin.ext ?_)
  match a with
  | ⟨0, _⟩ => show (y 0).val = 0; omega
  | ⟨1, _⟩ => show (y 1).val = (((cfg0.win 5).blk t).view.emb y 1).val; omega
  | ⟨2, _⟩ => show (y 2).val = (((cfg0.win 5).blk t).view.emb y 2).val; omega

/-- After the launch the output array holds `partials`. -/
theorem array_holds (c : Dev nD) : (dats m 0 c).arrAt 5 cfg0.N = partials m c := by
  refine (dats m 0 c).arrAt_eq_of_cover 5 _ (fun t hf => writes_partials m c t hf) fun (j : S2x64x1024.Idx) => ?_
  have j0 : (j 0).val < 2 := (j 0).isLt
  have j1 : (j 1).val < 64 := (j 1).isLt
  have j2 : (j 2).val < 1024 := (j 2).isLt
  let t : Fin cfg0.N := ⟨8 * (j 0).val + 7, last_lt (j 0)⟩
  have ht : t.val = 8 * (j 0).val + 7 := rfl
  obtain ⟨e0, e1, e2⟩ := out_block t
  refine ⟨t, (flush0_5 t).mpr (by omega), ?_⟩
  show j ∈ ((View.whole main_call0_v1).slice (win0_5.rect t)).set
  rw [View.set_slice_whole, Rect.mem_set_unit]
  intro a
  match a with
  | ⟨0, _⟩ => show win0_5.index t 0 * 1 ≤ (j 0).val ∧ (j 0).val < win0_5.index t 0 * 1 + 1; omega
  | ⟨1, _⟩ => show win0_5.index t 1 * 64 ≤ (j 1).val ∧ (j 1).val < win0_5.index t 1 * 64 + 64; omega
  | ⟨2, _⟩ => show win0_5.index t 2 * 1024 ≤ (j 2).val ∧ (j 2).val < win0_5.index t 2 * 1024 + 1024; omega

/-- The host's lines after the launch on an array of two slabs: the sum of the slabs. -/
def joined (a : Vec F S2x64x1024 .f32) : Vec F S64x1024 .f32 :=
  addf (shapeCast S64x1024 (extractStridedSlice S1x64x1024 ![0, 0, 0] a slices_S2x64x1024_S1x64x1024_0_0_0) shapeCasts_S1x64x1024_S64x1024)
    (shapeCast S64x1024 (extractStridedSlice S1x64x1024 ![1, 0, 0] a slices_S2x64x1024_S1x64x1024_1_0_0) shapeCasts_S1x64x1024_S64x1024)

/-- What the lines after the launch leave in the result buffer. -/
theorem tail_result (c : Dev nD) :
    Pipeline.afterTail₀ cfgs (dats m) 0 (V0 m) [hostOps1] c main_v0 = joined (partials m c) := by
  have ha : Pipeline.withArrays (cfgs 0).spec c (V0 m c) (fun w => (dats m 0 c).arrAt w (cfgs 0).N) (Proc.devRef .tc main_call0_v1)
      = partials m c :=
    (Pipeline.withArrays_arr (cfgs 0).spec launch0.win.arr_inj c (V0 m c) _ 5).trans (array_holds m c)
  unfold Pipeline.afterTail₀
  generalize Pipeline.withArrays (cfgs 0).spec c (V0 m c) (fun w => (dats m 0 c).arrAt w (cfgs 0).N) = W at ha
  show StableHlo.after hostOps1 W (Proc.devRef .tc main_v0) = _
  simp only [hostOps1]
  after_results
  rw [ha]
  rfl

/-- Every fair execution of the kernel's program ends with the sum of the two partial results in the result buffer and
    the arguments as they were. -/
theorem run : θ_run defs (onTc (τ := τ) (main (F := F))) ⟨m, fun _ => 0, ρ⟩ fun r => ∀ c : Dev nD,
      r.2.mem ((c : Thread nD τ).loc main_v0) = joined (partials m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨((h c).2 main_v0 (Pipeline.mem_restRefs_of main_v0 (by decide) (by decide))).trans (tail_result m c),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.Value

end
-- ==== Proof.Experts.lean ====
/-
  The computation both programs do, in the extended reals: each of 64 tokens goes through the feed-forward network of
  the one expert its index word names. An expert's network takes the token's row through a gate and an up projection,
  multiplies `z · logistic z` of the first by the second, and takes the 2048 products back down to 1024 lanes.
-/
module

public import Idealize.ShloMosaic.Lib.Pointwise
public import Idealize.ShloMosaic.Lib.ReduceAll
public import Idealize.ShloMosaic.Lib.StableHlo.Predicate

@[expose] public section

noncomputable section

namespace Cert.Experts

open Idealize.ShloMosaic
open scoped BigOperators

/-- Token rows. -/
abbrev Rows : Type := (⟨2, ![64, 1024]⟩ : Shape).Idx → EReal
/-- A gate or up projection per expert. -/
abbrev Wide : Type := (⟨3, ![8, 1024, 2048]⟩ : Shape).Idx → EReal
/-- A down projection per expert. -/
abbrev Down : Type := (⟨3, ![8, 2048, 1024]⟩ : Shape).Idx → EReal
/-- An index word per token. -/
abbrev Words : Type := (⟨1, ![64]⟩ : Shape).Idx → BitVec 32

/-- Token `t`'s row times column `k` of expert `e`'s projection `w`. -/
def proj (x : Rows) (w : Wide) (t : Fin 64) (e : Fin 8) (k : Fin 2048) : EReal :=
  ∑ l : Fin 1024, x (ix2 t l) * w (ix3 e l k)

/-- Hidden unit `k` of token `t` in expert `e`: the gate times its logistic, times the up projection. -/
def hiddenUnit (x : Rows) (wg wu : Wide) (t : Fin 64) (e : Fin 8) (k : Fin 2048) : EReal :=
  proj x wg t e k * Ideal.logistic (proj x wg t e k) * proj x wu t e k

/-- Output lane `o` of token `t` in expert `e`. -/
def network (x : Rows) (wg wu : Wide) (wd : Down) (t : Fin 64) (e : Fin 8) (o : Fin 1024) : EReal :=
  ∑ k : Fin 2048, hiddenUnit x wg wu t e k * wd (ix3 e k o)

/-- Hidden unit `k` of half `p`. -/
def unit (p : Fin 2) (k : Fin 1024) : Fin 2048 := ⟨1024 * p.val + k.val, by omega⟩

/-- The part of `network` that the 1024 hidden units of half `p` make. -/
def halfNetwork (x : Rows) (wg wu : Wide) (wd : Down) (p : Fin 2) (t : Fin 64) (e : Fin 8) (o : Fin 1024) : EReal :=
  ∑ k : Fin 1024, hiddenUnit x wg wu t e (unit p k) * wd (ix3 e (unit p k) o)

/-- The two halves make the whole. -/
theorem halves (x : Rows) (wg wu : Wide) (wd : Down) (t : Fin 64) (e : Fin 8) (o : Fin 1024) :
    halfNetwork x wg wu wd 0 t e o + halfNetwork x wg wu wd 1 t e o = network x wg wu wd t e o := by
  unfold halfNetwork network
  rw [show (∑ k : Fin 2048, hiddenUnit x wg wu t e k * wd (ix3 e k o))
      = ∑ k : Fin (1024 + 1024), hiddenUnit x wg wu t e k * wd (ix3 e k o) from rfl, Fin.sum_univ_add]
  refine congrArg₂ (· + ·) ?_ ?_ <;> refine Finset.sum_congr rfl fun k _ => ?_
  · rw [show unit 0 k = Fin.castAdd 1024 k from Fin.ext (by show 1024 * 0 + k.val = k.val; omega)]
  · rw [show unit 1 k = Fin.natAdd 1024 k from Fin.ext (by show 1024 * 1 + k.val = 1024 + k.val; omega)]

/-- Every index word names one of the eight experts. -/
def InRange (idx : Words) : Prop := ∀ t : Fin 64, (idx (ix1 t)).toNat < 8

/-- The expert an index word names (for a word in range). -/
def chosen (idx : Words) (t : Fin 64) : Fin 8 := ⟨(idx (ix1 t)).toNat % 8, Nat.mod_lt _ (by decide)⟩

/-- A word in range equals the word of expert number `e` exactly when it names `e`. -/
theorem word_eq_iff (idx : Words) (h : InRange idx) (t : Fin 64) (e : Fin 8) :
    idx (ix1 t) = BitVec.ofNat 32 e.val ↔ chosen idx t = e := by
  have ht := h t
  have he := e.isLt
  constructor
  · intro w
    have w' := congrArg BitVec.toNat w
    rw [BitVec.toNat_ofNat] at w'
    exact Fin.ext (by show (idx (ix1 t)).toNat % 8 = e.val; omega)
  · intro w
    have w' : (idx (ix1 t)).toNat % 8 = e.val := congrArg Fin.val w
    apply BitVec.eq_of_toNat_eq
    rw [BitVec.toNat_ofNat]
    omega

/-- A word that is at least 0 and below 8 as a signed number is below 8 as a natural number. -/
theorem toNat_lt_of_signed (w : BitVec 32) (h0 : IntOp.cmpi .sge w 0#32 = 1#1) (h8 : IntOp.cmpi .slt w 8#32 = 1#1) : w.toNat < 8 := by
  have one : ∀ b : Bool, BitVec.ofBool b = 1#1 → b = true := by decide
  have a := one _ h0
  have b := one _ h8
  simp only [BitVec.sle_iff_toInt_le, BitVec.slt_iff_toInt_lt, BitVec.toInt_eq_toNat_cond, BitVec.toNat_ofNat] at a b
  have := w.isLt
  split at b <;> omega

/-- A small word read as a signed number is itself. -/
theorem toInt_of_small (w : BitVec 32) (h : w.toNat < 8) : w.toInt.toNat = w.toNat := by
  rw [BitVec.toInt_eq_toNat_cond]
  split <;> omega

/-- The equality test of an index word with an expert's number, as a factor: 1 at the chosen expert and 0 elsewhere. -/
theorem mask_eq (idx : Words) (h : InRange idx) (t : Fin 64) (e : Fin 8) :
    ((BitVec.setWidth 32 (IntOp.cmpi .eq (idx (ix1 t)) (BitVec.ofNat 32 e.val)) : BitVec 32).toInt : ℝ)
      = if chosen idx t = e then 1 else 0 := by
  unfold IntOp.cmpi
  by_cases w : idx (ix1 t) = BitVec.ofNat 32 e.val
  · rw [if_pos ((word_eq_iff idx h t e).1 w), beq_iff_eq.2 w]
    norm_num
    decide
  · rw [if_neg (fun q => w ((word_eq_iff idx h t e).2 q)), beq_eq_false_iff_ne.2 w]
    norm_num

end Cert.Experts

end
-- ==== Proof.KernelValue.lean ====
/-
  The kernel's result over the extended reals. A grid point adds to its block, at the tokens that chose its expert, its
  half of that expert's network, and zero at the others; so after the eight points of a half the block holds, per token,
  the chosen expert's half, and the two slabs add up to the chosen expert's network.
-/
module

public import proofs.«01_k».proof.Proof.KernelArray
public import proofs.«01_k».proof.Proof.Experts

@[expose] public section

set_option maxRecDepth 16384

noncomputable section

namespace Cert.KernelIdeal.Value

open Cert.KernelIdeal Cert.KernelIdeal.Gen Idealize.ShloMosaic Idealize.ShloMosaic.TcCoe Idealize.SL.Sem
open Cert.Experts
open scoped BigOperators

variable (m : (ℓ : Loc nD τ sig) → Buf (Elt Ideal) ℓ)

/-- The rows the program is launched on. -/
abbrev rowsOf (c : Dev nD) : Rows := m ((c : Thread nD τ).loc main_arg0)
/-- The index words the program is launched on. -/
abbrev wordsOf (c : Dev nD) : Words := m ((c : Thread nD τ).loc main_arg1)
/-- The gate projections the program is launched on. -/
abbrev gateOf (c : Dev nD) : Wide := m ((c : Thread nD τ).loc main_arg2)
/-- The up projections the program is launched on. -/
abbrev upOf (c : Dev nD) : Wide := m ((c : Thread nD τ).loc main_arg3)
/-- The down projections the program is launched on. -/
abbrev downOf (c : Dev nD) : Down := m ((c : Thread nD τ).loc main_arg4)

/-- The stored value at token `t`, lane `o`: the block's own entry and the masked hidden units' products. -/
theorem stored_apply (i : grid0.Coords) (x : Vec Ideal S64x1024 .f32) (wg wu wd : Vec Ideal S1x1024x1024 .f32)
    (idx : Vec Ideal S64x1 .i32) (acc : Vec Ideal S1x64x1024 .f32) (t : Fin 64) (o : Fin 1024) :
    k0_pay2 i x wg wu idx acc wd (ix3 (0 : Fin 1) t o) = acc (ix3 (0 : Fin 1) t o) + ∑ k : Fin 1024,
      ((∑ l : Fin 1024, x (ix2 t l) * wg (ix3 (0 : Fin 1) l k)) * Ideal.logistic (∑ l : Fin 1024, x (ix2 t l) * wg (ix3 (0 : Fin 1) l k))
          * (∑ l : Fin 1024, x (ix2 t l) * wu (ix3 (0 : Fin 1) l k))
        * (((BitVec.setWidth 32 (IntOp.cmpi .eq (idx (ix2 t (0 : Fin 1))) (BitVec.ofNat 32 (i 1).val)) : BitVec 32).toInt : ℝ) : EReal))
        * wd (ix3 (0 : Fin 1) k o) := by
  unfold k0_pay2
  dsimp only
  pointwise
  rfl

/-- The block a half starts from is zero. -/
theorem zero_apply (t : Fin 64) (o : Fin 1024) : k0_pay1 (F := Ideal) (ix3 (0 : Fin 1) t o) = (0 : EReal) := by
  unfold k0_pay1
  pointwise

/-- The host's lines after the launch add the two slabs. -/
theorem joined_apply (a : Vec Ideal S2x64x1024 .f32) (t : Fin 64) (o : Fin 1024) :
    joined a (ix2 t o) = (a (ix3 (0 : Fin 2) t o) + a (ix3 (1 : Fin 2) t o) : EReal) := by
  unfold joined
  pointwise

/-! ## The input blocks of a point -/

/-- The half point `t` works on. -/
def halfAt (t : Fin cfg0.N) : Fin 2 := ⟨t.val / 8, by have h : t.val < 16 := Nat.lt_of_lt_of_eq t.isLt N_0; omega⟩
/-- The expert point `t` works on. -/
def expertAt (t : Fin cfg0.N) : Fin 8 := ⟨t.val % 8, Nat.mod_lt _ (by decide)⟩

/-- The grid coordinate the body compares the index words with is the point's expert. -/
theorem coord_expert (t : Fin cfg0.N) : (grid0.coords t 1).val = (expertAt t).val := by
  revert t
  exact (by decide +kernel : ∀ t : Fin grid0.N, (grid0.coords t 1).val = t.val % 8)

/-- Where each input block of point `t` lies in its array, in blocks. -/
theorem block_places (t : Fin cfg0.N) :
    (win0_0.index t 0 = 0 ∧ win0_0.index t 1 = 0) ∧ (win0_1.index t 0 = 0 ∧ win0_1.index t 1 = 0)
      ∧ (win0_2.index t 0 = t.val % 8 ∧ win0_2.index t 1 = 0 ∧ win0_2.index t 2 = t.val / 8)
      ∧ (win0_3.index t 0 = t.val % 8 ∧ win0_3.index t 1 = 0 ∧ win0_3.index t 2 = t.val / 8)
      ∧ (win0_4.index t 0 = t.val % 8 ∧ win0_4.index t 1 = t.val / 8 ∧ win0_4.index t 2 = 0) := by
  revert t
  exact (by decide +kernel : ∀ t : Fin grid0.N, (win0_0.index t 0 = 0 ∧ win0_0.index t 1 = 0) ∧ (win0_1.index t 0 = 0 ∧ win0_1.index t 1 = 0)
      ∧ (win0_2.index t 0 = t.val % 8 ∧ win0_2.index t 1 = 0 ∧ win0_2.index t 2 = t.val / 8)
      ∧ (win0_3.index t 0 = t.val % 8 ∧ win0_3.index t 1 = 0 ∧ win0_3.index t 2 = t.val / 8)
      ∧ (win0_4.index t 0 = t.val % 8 ∧ win0_4.index t 1 = t.val / 8 ∧ win0_4.index t 2 = 0))

/-- The index array the launch finds is the index argument as a column. -/
theorem column_holds (c : Dev nD) (j : Fin 64) :
    (V m c main_call0_v0 : S64x1.Idx → BitVec 32) (ix2 j (0 : Fin 1)) = wordsOf m c (ix1 j) := by
  have e : V m c main_call0_v0 = shapeCast S64x1 (wordsOf m c) shapeCasts_S64_S64x1 := by
    show StableHlo.after hostOps0 (fun b => m (c, b)) (Proc.devRef .tc main_call0_v0) = _
    simp only [hostOps0]
    after_results
    rfl
  rw [e]
  pointwise

/-- The index words' block is the whole column. -/
theorem words_block (c : Dev nD) (t : Fin cfg0.N) (j : Fin 64) :
    (iblk m c 0 t : Vec Ideal S64x1 .i32) (ix2 j (0 : Fin 1)) = wordsOf m c (ix1 j) := by
  obtain ⟨⟨e0, e1⟩, -⟩ := block_places t
  rw [← column_holds m c j]
  show V m c (Pipeline.arrRef spec0 0) (((cfg0.win 0).blk t).view.emb (ix2 j (0 : Fin 1))) = V m c main_call0_v0 (ix2 j (0 : Fin 1))
  refine congrArg (V m c main_call0_v0) (funext fun a => Fin.ext ?_)
  match a with
  | ⟨0, _⟩ => show win0_0.index t 0 * 64 + 1 * j.val = j.val; omega
  | ⟨1, _⟩ => show win0_0.index t 1 * 1 + 1 * 0 = 0; omega

/-- The rows' block is the whole array. -/
theorem rows_block (c : Dev nD) (t : Fin cfg0.N) (j : Fin 64) (l : Fin 1024) :
    (iblk m c 1 t : Vec Ideal S64x1024 .f32) (ix2 j l) = rowsOf m c (ix2 j l) := by
  obtain ⟨-, ⟨e0, e1⟩, -⟩ := block_places t
  refine Eq.trans ?_ (congrFun (V_main_arg0 m c) _)
  show V m c main_arg0 (((cfg0.win 1).blk t).view.emb (ix2 j l)) = V m c main_arg0 (ix2 j l)
  refine congrArg (V m c main_arg0) (funext fun a => Fin.ext ?_)
  match a with
  | ⟨0, _⟩ => show win0_1.index t 0 * 64 + 1 * j.val = j.val; omega
  | ⟨1, _⟩ => show win0_1.index t 1 * 1024 + 1 * l.val = l.val; omega

/-- The gate block of a point holds its expert's columns of its half. -/
theorem gate_block (c : Dev nD) (t : Fin cfg0.N) (l k : Fin 1024) :
    (iblk m c 2 t : Vec Ideal S1x1024x1024 .f32) (ix3 (0 : Fin 1) l k) = gateOf m c (ix3 (expertAt t) l (unit (halfAt t) k)) := by
  obtain ⟨-, -, ⟨e0, e1, e2⟩, -⟩ := block_places t
  refine Eq.trans ?_ (congrFun (V_main_arg2 m c) _)
  show V m c main_arg2 (((cfg0.win 2).blk t).view.emb (ix3 (0 : Fin 1) l k)) = V m c main_arg2 (ix3 (expertAt t) l (unit (halfAt t) k))
  refine congrArg (V m c main_arg2) (funext fun a => Fin.ext ?_)
  match a with
  | ⟨0, _⟩ => show win0_2.index t 0 * 1 + 1 * 0 = t.val % 8; omega
  | ⟨1, _⟩ => show win0_2.index t 1 * 1024 + 1 * l.val = l.val; omega
  | ⟨2, _⟩ => show win0_2.index t 2 * 1024 + 1 * k.val = 1024 * (t.val / 8) + k.val; omega

/-- The up block of a point holds its expert's columns of its half. -/
theorem up_block (c : Dev nD) (t : Fin cfg0.N) (l k : Fin 1024) :
    (iblk m c 3 t : Vec Ideal S1x1024x1024 .f32) (ix3 (0 : Fin 1) l k) = upOf m c (ix3 (expertAt t) l (unit (halfAt t) k)) := by
  obtain ⟨-, -, -, ⟨e0, e1, e2⟩, -⟩ := block_places t
  refine Eq.trans ?_ (congrFun (V_main_arg3 m c) _)
  show V m c main_arg3 (((cfg0.win 3).blk t).view.emb (ix3 (0 : Fin 1) l k)) = V m c main_arg3 (ix3 (expertAt t) l (unit (halfAt t) k))
  refine congrArg (V m c main_arg3) (funext fun a => Fin.ext ?_)
  match a with
  | ⟨0, _⟩ => show win0_3.index t 0 * 1 + 1 * 0 = t.val % 8; omega
  | ⟨1, _⟩ => show win0_3.index t 1 * 1024 + 1 * l.val = l.val; omega
  | ⟨2, _⟩ => show win0_3.index t 2 * 1024 + 1 * k.val = 1024 * (t.val / 8) + k.val; omega

/-- The down block of a point holds its expert's rows of its half. -/
theorem down_block (c : Dev nD) (t : Fin cfg0.N) (k o : Fin 1024) :
    (iblk m c 4 t : Vec Ideal S1x1024x1024 .f32) (ix3 (0 : Fin 1) k o) = downOf m c (ix3 (expertAt t) (unit (halfAt t) k) o) := by
  obtain ⟨-, -, -, -, ⟨e0, e1, e2⟩⟩ := block_places t
  refine Eq.trans ?_ (congrFun (V_main_arg4 m c) _)
  show V m c main_arg4 (((cfg0.win 4).blk t).view.emb (ix3 (0 : Fin 1) k o)) = V m c main_arg4 (ix3 (expertAt t) (unit (halfAt t) k) o)
  refine congrArg (V m c main_arg4) (funext fun a => Fin.ext ?_)
  match a with
  | ⟨0, _⟩ => show win0_4.index t 0 * 1 + 1 * 0 = t.val % 8; omega
  | ⟨1, _⟩ => show win0_4.index t 1 * 1024 + 1 * k.val = 1024 * (t.val / 8) + k.val; omega
  | ⟨2, _⟩ => show win0_4.index t 2 * 1024 + 1 * o.val = o.val; omega

/-! ## What a point adds, and what a half's points leave -/

/-- A point adds its half of its expert's network at the tokens that chose the expert, and zero elsewhere. -/
theorem leave_apply (c : Dev nD) (hr : InRange (wordsOf m c)) (n : Fin cfg0.N) (acc : Vec Ideal S1x64x1024 .f32)
    (t : Fin 64) (o : Fin 1024) :
    leave m c n acc (ix3 (0 : Fin 1) t o) = (acc (ix3 (0 : Fin 1) t o) + if chosen (wordsOf m c) t = expertAt n then
      halfNetwork (rowsOf m c) (gateOf m c) (upOf m c) (downOf m c) (halfAt n) t (expertAt n) o else 0 : EReal) := by
  unfold leave
  rw [stored_apply]
  simp only [words_block, rows_block, gate_block, up_block, down_block, coord_expert, mask_eq _ hr]
  refine congrArg (acc (ix3 (0 : Fin 1) t o) + ·) ?_
  split
  · unfold halfNetwork hiddenUnit proj
    simp only [EReal.coe_one, mul_one]
  · simp only [EReal.coe_zero, mul_zero, zero_mul, Finset.sum_const_zero]

/-- After the point of expert number `e` in half `p`, a token's row of the block is the half network of its chosen
    expert if that expert's number is at most `e`, and zero otherwise. -/
theorem block_apply (c : Dev nD) (hr : InRange (wordsOf m c)) (p : Fin 2) (t : Fin 64) (o : Fin 1024) :
    ∀ (e : ℕ) (_ : e < 8) (h : 8 * p.val + e < cfg0.N), outsAt0 m c (8 * p.val + e) h (ix3 (0 : Fin 1) t o)
      = (if (chosen (wordsOf m c) t).val ≤ e then
          halfNetwork (rowsOf m c) (gateOf m c) (upOf m c) (downOf m c) p t (chosen (wordsOf m c) t) o else 0 : EReal)
  | 0, _, h => by
    have hp : halfAt ⟨8 * p.val + 0, h⟩ = p := Fin.ext (by show (8 * p.val + 0) / 8 = p.val; omega)
    have he : expertAt ⟨8 * p.val + 0, h⟩ = 0 := Fin.ext (by show (8 * p.val + 0) % 8 = 0; omega)
    rw [block_first m c _ h (by omega), leave_apply m c hr, zero_apply, zero_add, hp, he]
    by_cases q : chosen (wordsOf m c) t = 0
    · rw [if_pos q, if_pos (by rw [q]; exact Nat.le_refl 0), q]
    · rw [if_neg q, if_neg (fun w => q (Fin.ext (Nat.le_zero.1 w)))]
  | e + 1, hlt, h => by
    have hp : halfAt ⟨8 * p.val + e + 1, h⟩ = p := Fin.ext (by show (8 * p.val + e + 1) / 8 = p.val; omega)
    have he : (expertAt ⟨8 * p.val + e + 1, h⟩).val = e + 1 := by show (8 * p.val + e + 1) % 8 = e + 1; omega
    show outsAt0 m c (8 * p.val + e + 1) h (ix3 (0 : Fin 1) t o) = _
    rw [block_later m c (8 * p.val + e) h (by omega), leave_apply m c hr, block_apply c hr p t o e (by omega), hp]
    by_cases q : chosen (wordsOf m c) t = expertAt ⟨8 * p.val + e + 1, h⟩
    · have q' : (chosen (wordsOf m c) t).val = e + 1 := by rw [q, he]
      rw [if_pos q, if_neg (by omega), if_pos (by omega), zero_add, q]
    · have q' : (chosen (wordsOf m c) t).val ≠ e + 1 := fun w => q (Fin.ext (by rw [w, he]))
      rw [if_neg q, add_zero]
      by_cases w : (chosen (wordsOf m c) t).val ≤ e
      · rw [if_pos w, if_pos (by omega)]
      · rw [if_neg w, if_neg (by omega)]

/-- Slab `p` holds the chosen experts' half networks. -/
theorem partials_apply (c : Dev nD) (hr : InRange (wordsOf m c)) (p : Fin 2) (t : Fin 64) (o : Fin 1024) :
    (partials m c : Vec Ideal S2x64x1024 .f32) (ix3 p t o)
      = halfNetwork (rowsOf m c) (gateOf m c) (upOf m c) (downOf m c) p t (chosen (wordsOf m c) t) o := by
  refine (block_apply m c hr p t o 7 (by decide) (last_lt p)).trans ?_
  rw [if_pos (by have := (chosen (wordsOf m c) t).isLt; omega)]

/-- The kernel's result: each token through the network of its chosen expert. -/
theorem result_apply (c : Dev nD) (hr : InRange (wordsOf m c)) (t : Fin 64) (o : Fin 1024) :
    joined (partials m c) (ix2 t o)
      = network (rowsOf m c) (gateOf m c) (upOf m c) (downOf m c) t (chosen (wordsOf m c) t) o := by
  rw [joined_apply, partials_apply m c hr, partials_apply m c hr]
  exact halves ..

end Cert.KernelIdeal.Value

end
-- ==== Proof.ReferenceValue.lean ====
/-
  The reference's result over the extended reals. Each take reads the stack of one projection per expert at the expert
  an index word names, when the words are in range; so the reference, too, puts each token through the network of its
  chosen expert.
-/
module

public import proofs.«01_k».proof.Proof.Gen.ReferenceIdeal.Run
public import proofs.«01_k».proof.Proof.Experts

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Cert.Experts
open scoped BigOperators

/-- The dimension numbers of a take of one [A, B] matrix per token out of a stack of eight. -/
abbrev pickDims (A B : ℕ)
    (wf : GatherDims.WF ⟨3, ![8, A, B]⟩ ⟨2, ![64, 1]⟩ ⟨3, ![64, A, B]⟩ [1, 2] [0] [] [0] [] 1 ![1, A, B]) :
    GatherDims ⟨3, ![8, A, B]⟩ ⟨2, ![64, 1]⟩ ⟨3, ![64, A, B]⟩ where
  offsetDims := [1, 2]
  collapsedSliceDims := [0]
  operandBatchingDims := []
  startIndicesBatchingDims := []
  startIndexMap := [0]
  indexVectorDim := 1
  sliceSizes := ![1, A, B]
  wf := wf

/-- Such a take at a token whose start index is expert `e` reads matrix `e`. -/
theorem pick_apply {A B : ℕ}
    (wf : GatherDims.WF ⟨3, ![8, A, B]⟩ ⟨2, ![64, 1]⟩ ⟨3, ![64, A, B]⟩ [1, 2] [0] [] [0] [] 1 ![1, A, B])
    (w : (⟨3, ![8, A, B]⟩ : Shape).Idx → EReal) (idx : IVec ⟨2, ![64, 1]⟩ 32) (t : Fin 64) (a : Fin A) (b : Fin B) (e : Fin 8)
    (he : (idx (ix2 t (0 : Fin 1))).toInt.toNat = e.val) :
    Host.gather (pickDims A B wf) w idx (ix3 t a b) = w (ix3 e a b) := by
  unfold Host.gather
  refine congrArg w (funext fun q => Fin.ext ?_)
  show (pickDims A B wf).start (ix3 t a b) idx q + (pickDims A B wf).batchCoord (ix3 t a b) q
    + (pickDims A B wf).offCoord (ix3 t a b) q = (ix3 e a b q).val
  rw [GatherDims.batchCoord_eq_zero _ _ _ List.not_mem_nil]
  match q with
  | ⟨0, _⟩ =>
    rw [GatherDims.offCoord_eq_zero _ _ _ (fun h => ((GatherDims.mem_sKept _ _).mp h).1 (List.mem_singleton.mpr rfl))]
    have place : (pickDims A B wf).siIdx (ix3 t a b) ⟨0, Nat.one_pos⟩ = ix2 t (0 : Fin 1) := by
      funext r
      match r with
      | ⟨0, _⟩ => rfl
      | ⟨1, _⟩ => rfl
    show min (idx ((pickDims A B wf).siIdx (ix3 t a b) ⟨0, Nat.one_pos⟩)).toInt.toNat (8 - 1) + 0 + 0 = e.val
    rw [place, he]
    omega
  | ⟨1, _⟩ => show 0 + 0 + a.val = a.val; omega
  | ⟨2, _⟩ => show 0 + 0 + b.val = b.val; omega

/-- The start indices of a take: the words, the negative ones moved up by eight, as a column. -/
abbrev starts (idx : IVec S64 32) : IVec S64x1 32 :=
  broadcastInDim S64x1 ![0] bcast_S64_S64x1_0 (select (cmpi .slt idx (broadcastInDim S64 ![] bcast_S_S64 (constantI S_ 32 0#32)))
    (addi idx (broadcastInDim S64 ![] bcast_S_S64 (constantI S_ 32 8#32))) idx)

/-- Which tokens' start indices are in range. -/
abbrev valid (idx : IVec S64 32) : IVec S64 1 :=
  Host.reduce IntOp.andi (andi (cmpi .sge (starts idx) (broadcastInDim S64x1 ![] bcast_S_S64x1 (constantI S_ 32 0#32)))
    (cmpi .sle (starts idx) (broadcastInDim S64x1 ![0, 1] bcast_S1x1_S64x1_0_1 (broadcastInDim S1x1 ![1] bcast_S1_S1x1_1 (constantI S1 32 7#32)))))
    (constantI S_ 1 1#1) reducesTo_S64x1_S64_d1 h_S_

/-- A word in range is its own start index. -/
theorem starts_apply (idx : Words) (h : InRange idx) (t : Fin 64) : starts idx (ix2 t (0 : Fin 1)) = idx (ix1 t) := by
  have ht := h t
  unfold starts
  pointwise
  have no : ¬ IntOp.cmpi .slt (idx (ix1 t)) 0#32 = 1#1 := by
    rw [StableHlo.Predicate.slt_iff_toNat (by omega) (by decide)]
    exact Nat.not_lt_zero _
  exact if_neg no

/-- Every token's start index is in range when the words are. -/
theorem valid_apply (idx : Words) (h : InRange idx) (t : Fin 64) : valid idx (ix1 t) = 1#1 := by
  unfold valid
  refine Host.reduce_andi_one _ _ _ _ _ rfl fun j => ?_
  obtain ⟨s, rfl⟩ : ∃ s : Fin 64, j = ix2 s (0 : Fin 1) :=
    ⟨j 0, funext fun a => match a with | ⟨0, _⟩ => rfl | ⟨1, _⟩ => Fin.ext (Nat.lt_one_iff.1 (j 1).isLt)⟩
  have hs := h s
  show IntOp.andi (IntOp.cmpi .sge (starts idx (ix2 s (0 : Fin 1))) 0#32) (IntOp.cmpi .sle (starts idx (ix2 s (0 : Fin 1))) 7#32) = 1#1
  rw [starts_apply idx h s, (StableHlo.Predicate.sge_iff_toNat (by omega) (by decide)).2 (Nat.zero_le _),
    (StableHlo.Predicate.sle_iff_toNat (by omega) (by decide)).2 (by show _ ≤ 7; omega)]
  rfl

/-- The matrices one take of a gate or up stack gives the tokens. -/
abbrev takeWide (idx : IVec S64 32) (w : FVec Ideal S8x1024x2048 .f32) : FVec Ideal S64x1024x2048 .f32 :=
  select (broadcastInDim S64x1024x2048 ![0] bcast_S64_S64x1024x2048_0 (valid idx))
    (Host.gather gather_S8x1024x2048_S64x1_S64x1024x2048_12_0_n_n_0_1_110242048 w (starts idx))
    (broadcastInDim S64x1024x2048 ![] bcast_S_S64x1024x2048 (constant S_ .f32 0x7FC00000#32))

/-- The matrices the take of the down stack gives the tokens. -/
abbrev takeDown (idx : IVec S64 32) (w : FVec Ideal S8x2048x1024 .f32) : FVec Ideal S64x2048x1024 .f32 :=
  select (broadcastInDim S64x2048x1024 ![0] bcast_S64_S64x2048x1024_0 (valid idx))
    (Host.gather gather_S8x2048x1024_S64x1_S64x2048x1024_12_0_n_n_0_1_120481024 w (starts idx))
    (broadcastInDim S64x2048x1024 ![] bcast_S_S64x2048x1024 (constant S_ .f32 0x7FC00000#32))

/-- A token's start index, read as a number, is its chosen expert. -/
theorem starts_number (idx : Words) (h : InRange idx) (t : Fin 64) :
    (starts idx (ix2 t (0 : Fin 1))).toInt.toNat = (chosen idx t).val := by
  have ht := h t
  rw [starts_apply idx h, toInt_of_small _ ht]
  show (idx (ix1 t)).toNat = (idx (ix1 t)).toNat % 8
  omega

/-- A take of a gate or up stack gives a token its chosen expert's matrix. -/
theorem takeWide_apply (idx : Words) (h : InRange idx) (w : Wide) (t : Fin 64) (l : Fin 1024) (k : Fin 2048) :
    takeWide idx w (ix3 t l k) = w (ix3 (chosen idx t) l k) := by
  show Scalar.select (broadcastInDim S64x1024x2048 ![0] bcast_S64_S64x1024x2048_0 (valid idx) (ix3 t l k)) _ _ = _
  rw [show broadcastInDim S64x1024x2048 ![0] bcast_S64_S64x1024x2048_0 (valid idx) (ix3 t l k) = 1#1 from by
    refine Eq.trans ?_ (valid_apply idx h t)
    generalize valid idx = v
    pointwise]
  refine (if_pos rfl).trans ?_
  exact pick_apply _ w _ t l k _ (starts_number idx h t)

/-- The take of the down stack gives a token its chosen expert's matrix. -/
theorem takeDown_apply (idx : Words) (h : InRange idx) (w : Down) (t : Fin 64) (k : Fin 2048) (o : Fin 1024) :
    takeDown idx w (ix3 t k o) = w (ix3 (chosen idx t) k o) := by
  show Scalar.select (broadcastInDim S64x2048x1024 ![0] bcast_S64_S64x2048x1024_0 (valid idx) (ix3 t k o)) _ _ = _
  rw [show broadcastInDim S64x2048x1024 ![0] bcast_S64_S64x2048x1024_0 (valid idx) (ix3 t k o) = 1#1 from by
    refine Eq.trans ?_ (valid_apply idx h t)
    generalize valid idx = v
    pointwise]
  refine (if_pos rfl).trans ?_
  exact pick_apply _ w _ t k o _ (starts_number idx h t)

/-- The batched products, gating and down product on matrices given per token. -/
def perToken (x : FVec Ideal S64x1024 .f32) (g u : FVec Ideal S64x1024x2048 .f32) (d : FVec Ideal S64x2048x1024 .f32) : FVec Ideal S64x1024 .f32 :=
  Host.dotGeneral dot_S64x2048_S64x2048x1024_S64x1024_1_1_n_2_0_0 none
    (mulf (mulf (Host.dotGeneral dot_S64x1024_S64x1024x2048_S64x2048_1_1_n_2_0_0 none x g)
        (Host.divf (broadcastInDim S64x2048 ![] bcast_S_S64x2048 (constant S_ .f32 0x3F800000#32))
          (addf (broadcastInDim S64x2048 ![] bcast_S_S64x2048 (constant S_ .f32 0x3F800000#32))
            (Host.exp (Host.negf (Host.dotGeneral dot_S64x1024_S64x1024x2048_S64x2048_1_1_n_2_0_0 none x g))))))
      (Host.dotGeneral dot_S64x1024_S64x1024x2048_S64x2048_1_1_n_2_0_0 none x u)) d

/-- `perToken` at token `t`, lane `o`. -/
theorem perToken_apply (x : FVec Ideal S64x1024 .f32) (g u : FVec Ideal S64x1024x2048 .f32) (d : FVec Ideal S64x2048x1024 .f32)
    (t : Fin 64) (o : Fin 1024) :
    perToken x g u d (ix2 t o) = (∑ k : Fin 2048,
      (∑ l : Fin 1024, x (ix2 t l) * g (ix3 t l k)) * Ideal.logistic (∑ l : Fin 1024, x (ix2 t l) * g (ix3 t l k))
        * (∑ l : Fin 1024, x (ix2 t l) * u (ix3 t l k)) * d (ix3 t k o) : EReal) := by
  unfold perToken
  pointwise
  rfl

/-- The reference's result: each token through the network of its chosen expert. -/
theorem result_apply (m : (ℓ : Loc nD τ sig) → Buf (Elt Ideal) ℓ) (c : Dev nD) (x : Rows) (idx : Words) (wg wu : Wide) (wd : Down)
    (h0 : m ((c : Thread nD τ).loc main_arg0) = x) (h1 : m ((c : Thread nD τ).loc main_arg1) = idx)
    (h2 : m ((c : Thread nD τ).loc main_arg2) = wg) (h3 : m ((c : Thread nD τ).loc main_arg3) = wu)
    (h4 : m ((c : Thread nD τ).loc main_arg4) = wd) (hr : InRange idx) (t : Fin 64) (o : Fin 1024) :
    (res_out0 m c : FVec Ideal S64x1024 .f32) (ix2 t o) = network x wg wu wd t (chosen idx t) o := by
  have e : (res_out0 m c : FVec Ideal S64x1024 .f32) = perToken x (takeWide idx wg) (takeWide idx wu) (takeDown idx wd) := by
    subst h0 h1 h2 h3 h4
    rfl
  rw [e, perToken_apply]
  simp only [takeWide_apply idx hr, takeDown_apply idx hr]
  rfl

end Cert.ReferenceIdeal.Value

end
-- ==== Proof.Precondition.lean ====
/-
  The precondition read back: when its word is one, every token's index word names one of the eight experts.
-/
module

public import proofs.«01_k».proof.Proof.Gen.Pre_in_range
public import proofs.«01_k».proof.Proof.Experts

@[expose] public section

namespace Cert.Pre_in_range

open Idealize.ShloMosaic Cert.Experts

/-- Where the precondition holds of five arguments, the second argument's words are all below 8. -/
theorem words_in_range (x : FVec Ideal S64x1024 .f32) (idx : IVec S64 32) (wg wu : FVec Ideal S8x1024x2048 .f32) (wd : FVec Ideal S8x2048x1024 .f32)
    (h : fn (F := Ideal) x idx wg wu wd = fun _ => 1#1) : InRange idx := by
  intro t
  have : Subsingleton S_.Idx := ⟨fun a b => funext fun d => d.elim0⟩
  have both := Host.reduce_andi_all _ _ _ _ _ (congrFun h (fun d => d.elim0)) (ix1 t)
  obtain ⟨low, high⟩ := IntOp.andi_eq_one.1 both
  exact toNat_lt_of_signed _ low high

end Cert.Pre_in_range

end
-- ==== Proof.lean ====
/-
  The certificate's proof. Both programs compute, for every token, the feed-forward network of the expert its index word
  names (Proof/Experts.lean): the kernel as a sum over experts of masked halves (Proof/KernelArray.lean says which array
  its launch leaves, Proof/KernelValue.lean what that array holds), the reference by taking each token's own weights
  (Proof/ReferenceValue.lean). Proof/Precondition.lean reads the range of the index words off the precondition.
-/
module

public import proofs.«01_k».proof.Defs
public import proofs.«01_k».proof.Proof.Gen.Kernel.Frame
public import proofs.«01_k».proof.Proof.Gen.KernelIdeal.Frame
public import proofs.«01_k».proof.Proof.KernelValue
public import proofs.«01_k».proof.Proof.ReferenceValue
public import proofs.«01_k».proof.Proof.Precondition
public import Idealize.ShloMosaic.Lib.Quiescent

@[expose] public section

noncomputable section

namespace Cert.Proof

open Idealize.ShloMosaic Idealize.SL.Sem

/-- The reference runs from any memory, leaves its arguments as they were and, having no semaphore, leaves none raised. -/
theorem reference_frame : quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

/-- On one device, from the same arguments with index words in range, the reference's result is the kernel's. -/
theorem same_result
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hr : Cert.Experts.InRange (Cert.KernelIdeal.Value.wordsOf m c))
    (h0 : m' ((c.tc : Thread Cert.ReferenceIdeal.nD Cert.ReferenceIdeal.τ).loc Cert.ReferenceIdeal.main_arg0)
      = Cert.KernelIdeal.Value.rowsOf m c)
    (h1 : m' ((c.tc : Thread Cert.ReferenceIdeal.nD Cert.ReferenceIdeal.τ).loc Cert.ReferenceIdeal.main_arg1)
      = Cert.KernelIdeal.Value.wordsOf m c)
    (h2 : m' ((c.tc : Thread Cert.ReferenceIdeal.nD Cert.ReferenceIdeal.τ).loc Cert.ReferenceIdeal.main_arg2)
      = Cert.KernelIdeal.Value.gateOf m c)
    (h3 : m' ((c.tc : Thread Cert.ReferenceIdeal.nD Cert.ReferenceIdeal.τ).loc Cert.ReferenceIdeal.main_arg3)
      = Cert.KernelIdeal.Value.upOf m c)
    (h4 : m' ((c.tc : Thread Cert.ReferenceIdeal.nD Cert.ReferenceIdeal.τ).loc Cert.ReferenceIdeal.main_arg4)
      = Cert.KernelIdeal.Value.downOf m c) :
    (Cert.ReferenceIdeal.Value.res_out0 m' c : FVec Ideal ⟨2, ![64, 1024]⟩ .f32)
      = Cert.KernelIdeal.Value.joined (Cert.KernelIdeal.Value.partials m c) := by
  funext j
  have hj : j = ix2 (j 0) (j 1) := by
    funext d
    fin_cases d <;> rfl
  rw [hj]
  exact (Cert.ReferenceIdeal.Value.result_apply m' c _ _ _ _ _ h0 h1 h2 h3 h4 hr (j 0) (j 1)).trans
    (Cert.KernelIdeal.Value.result_apply m c hr (j 0) (j 1)).symm

/-- The value claim: from memories that agree on the arguments and whose index words are in range, the kernel and the
    reference end with the same 64×1024 result, and with their arguments unchanged. -/
theorem same_value : algebraic_KernelIdeal_ReferenceIdeal_pre_in_range := by
  intro m ρ m' ρ' pre agree
  refine ⟨fun c => Cert.KernelIdeal.Value.joined (Cert.KernelIdeal.Value.partials m c), Cert.KernelIdeal.Value.run m ρ, ?_⟩
  refine (θ_run Cert.ReferenceIdeal.defs _ _).mono (fun r h c => ⟨(h c).1.trans ?_, (h c).2⟩) (Cert.ReferenceIdeal.Value.run m' ρ')
  obtain ⟨h0, h1, h2, h3, h4⟩ := agree c
  exact same_result m m' c (Cert.Pre_in_range.words_in_range _ _ _ _ _ (pre c)) h0 h1 h2 h3 h4

/-- Everything the certificate claims. -/
theorem claim : Cert.Claim :=
  ⟨Cert.Kernel.Gen.facts, Cert.KernelIdeal.Gen.facts, Cert.ReferenceIdeal.Gen.facts, Cert.Pre_in_range.Gen.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, trivial, same_value⟩

end Cert.Proof

end
